-- ==== Defs.lean ====
def Pre_Kernel [hPre_index_in_table : Cert.Pre_index_in_table.Facts] (m : (ℓ : Loc Cert.Kernel.nD Cert.Kernel.τ Cert.Kernel.sig) → Buf (Elt Bits) ℓ) : Prop :=
  ∀ c : Dev Cert.Kernel.nD,
    (Cert.Pre_index_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_index_in_table : Cert.Pre_index_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_table [hPre_index_in_table : Cert.Pre_index_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_index_in_table : Cert.Pre_index_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_index_in_table : Cert.Pre_index_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_index_in_table [hReferenceIdeal : Cert.ReferenceIdeal.Facts] [hPre_index_in_table : Cert.Pre_index_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_table : Cert.Pre_index_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_index_in_table : Cert.Pre_index_in_table.Facts),
    quiescent_Kernel (hKernel := hKernel) (hPre_index_in_table := hPre_index_in_table)
    ∧ quiescent_KernelIdeal (hKernelIdeal := hKernelIdeal) (hPre_index_in_table := hPre_index_in_table)
    ∧ quiescent_ReferenceIdeal (hReferenceIdeal := hReferenceIdeal)
    ∧ quiescent_ReferenceIdeal_pre_index_in_table (hReferenceIdeal := hReferenceIdeal) (hPre_index_in_table := hPre_index_in_table)
    ∧ preserves_Kernel_KernelIdeal
    ∧ algebraic_KernelIdeal_ReferenceIdeal (hKernelIdeal := hKernelIdeal) (hReferenceIdeal := hReferenceIdeal) (hPre_index_in_table := hPre_index_in_table)
-- ==== Pre_index_in_table.lean ====
abbrev S4x1x4096x2048 : Shape := ⟨4, ![4, 1, 4096, 2048]⟩
abbrev S2048 : Shape := ⟨1, ![2048]⟩
abbrev S4x2048 : Shape := ⟨2, ![4, 2048]⟩
abbrev S_ : Shape := ⟨0, ![]⟩

class Facts : Prop where

variable [Facts]

def fn {F : FTy → Type} [FloatOps F] (main_arg0 : FVec F S4x1x4096x2048 .f32) (main_arg1 : FVec F S2048 .f32) (main_arg2 : FVec F S2048 .f32) (main_arg3 : FVec F S4x2048 .f32) (main_arg4 : IVec S_ 32) : IVec S_ 1 :=
  let main_c : IVec S_ 32 := constantI S_ 32 0#32
  let main_v0 : IVec S_ 1 := cmpi .sge main_arg4 main_c
  let main_c_0 : IVec S_ 32 := constantI S_ 32 4#32
  let main_v1 : IVec S_ 1 := cmpi .slt main_arg4 main_c_0
  let main_v2 : IVec S_ 1 := andi main_v0 main_v1
  main_v2
-- ==== Kernel.lean ====
abbrev S4x1x4096x2048 : Shape := ⟨4, ![4, 1, 4096, 2048]⟩
abbrev S2048 : Shape := ⟨1, ![2048]⟩
abbrev S4x2048 : Shape := ⟨2, ![4, 2048]⟩
abbrev S_ : Shape := ⟨0, ![]⟩
abbrev S16384x2048 : Shape := ⟨2, ![16384, 2048]⟩
abbrev S1 : Shape := ⟨1, ![1]⟩
abbrev S2048x2048 : Shape := ⟨2, ![2048, 2048]⟩
abbrev S1024x2048 : Shape := ⟨2, ![1024, 2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 8
  | .vmem => 7
  | .smem => 1
  | _ => 0

abbrev bufTy : (tb : Table) → Fin (tcTables nBuf tb) → BufTy
  | .hbm, ⟨0, _⟩ => ⟨S4x1x4096x2048, .f32⟩
  | .hbm, ⟨1, _⟩ => ⟨S2048, .f32⟩
  | .hbm, ⟨2, _⟩ => ⟨S2048, .f32⟩
  | .hbm, ⟨3, _⟩ => ⟨S4x2048, .f32⟩
  | .hbm, ⟨4, _⟩ => ⟨S_, .i32⟩
  | .hbm, ⟨5, _⟩ => ⟨S16384x2048, .f32⟩
  | .hbm, ⟨6, _⟩ => ⟨S16384x2048, .f32⟩
  | .hbm, ⟨7, _⟩ => ⟨S4x1x4096x2048, .f32⟩
  | .local _ .vmem, ⟨0, _⟩ => ⟨S2048x2048, .f32⟩
  | .local _ .vmem, ⟨1, _⟩ => ⟨S2048x2048, .f32⟩
  | .local _ .vmem, ⟨2, _⟩ => ⟨S2048, .f32⟩
  | .local _ .vmem, ⟨3, _⟩ => ⟨S2048, .f32⟩
  | .local _ .vmem, ⟨4, _⟩ => ⟨S4x2048, .f32⟩
  | .local _ .vmem, ⟨5, _⟩ => ⟨S1024x2048, .f32⟩
  | .local _ .vmem, ⟨6, _⟩ => ⟨S1024x2048, .f32⟩
  | .local _ .smem, ⟨0, _⟩ => ⟨S1, .i32⟩
  | _, _ => ⟨S4x1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v2 : Ref sig .tc := ⟨.hbm, 6, rfl⟩
abbrev main_v3 : Ref sig .tc := ⟨.hbm, 7, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : Index := Scalar.indexCast v0
  let c0 : Index := 0#32
  ![v1.toNat, 0]
def k0_off2 (v19 : BitVec 32) : Fin 2 → Nat :=
  let v20 : Index := Scalar.indexCast v19
  let c0_6 : Index := 0#32
  ![v20.toNat, 0]

def k0_chk1 (v19 : BitVec 32) : Prop :=
  (∀ a, (k0_off2 v19) a + S1x2048.size a ≤ S4x2048.size a)
theorem k0_off2_inb : ∀ (v19 : BitVec 32) (k0_hw1 : k0_chk1 v19), ∀ a, (k0_off2 v19) a + S1x2048.size a ≤ S4x2048.size a := fun v19 k0_hw1 => k0_hw1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x1x4096x2048 : Shape := ⟨4, ![4, 1, 4096, 2048]⟩
abbrev S2048 : Shape := ⟨1, ![2048]⟩
abbrev S4x2048 : Shape := ⟨2, ![4, 2048]⟩
abbrev S_ : Shape := ⟨0, ![]⟩
abbrev S4x1x4096 : Shape := ⟨3, ![4, 1, 4096]⟩
abbrev S4x1x4096x1 : Shape := ⟨4, ![4, 1, 4096, 1]⟩
abbrev S1x1x1x2048 : Shape := ⟨4, ![1, 1, 1, 2048]⟩
abbrev S1 : Shape := ⟨1, ![1]⟩

abbrev nBuf : Space → Nat
  | .hbm => 71
  | .vmem => 0
  | .smem => 0
  | _ => 0

abbrev bufTy : (tb : Table) → Fin (tcTables nBuf tb) → BufTy
  | .hbm, ⟨0, _⟩ => ⟨S4x1x4096x2048, .f32⟩
  | .hbm, ⟨1, _⟩ => ⟨S2048, .f32⟩
  | .hbm, ⟨2, _⟩ => ⟨S2048, .f32⟩
  | .hbm, ⟨3, _⟩ => ⟨S4x2048, .f32⟩
  | .hbm, ⟨4, _⟩ => ⟨S_, .i32⟩
  | .hbm, ⟨5, _⟩ => ⟨S_, .f32⟩
  | .hbm, ⟨6, _⟩ => ⟨S4x1x4096, .f32⟩
  | .hbm, ⟨7, _⟩ => ⟨S4x1x4096x1, .f32⟩
  | .hbm, ⟨8, _⟩ => ⟨S_, .f32⟩
  | .hbm, ⟨9, _⟩ => ⟨S4x1x4096x1, .f32⟩
  | .hbm, ⟨10, _⟩ => ⟨S4x1x4096x1, .f32⟩
  | .hbm, ⟨11, _⟩ => ⟨S_, .i32⟩
  | .hbm, ⟨12, _⟩ => ⟨S_, .f32⟩
  | .hbm, ⟨13, _⟩ => ⟨S4x1x4096, .f32⟩
  | .hbm, ⟨14, _⟩ => ⟨S4x1x4096x1, .f32⟩
  | .hbm, ⟨15, _⟩ => ⟨S_, .f32⟩
  | .hbm, ⟨16, _⟩ => ⟨S4x1x4096x1, .f32⟩
  | .hbm, ⟨17, _⟩ => ⟨S4x1x4096x1, .f32⟩
  | .hbm, ⟨18, _⟩ => ⟨S4x1x4096x2048, .f32⟩
  | .hbm, ⟨19, _⟩ => ⟨S4x1x4096x2048, .f32⟩
  | .hbm, ⟨20, _⟩ => ⟨S4x1x4096x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x1x4096, .f32⟩
  | .hbm, ⟨26, _⟩ => ⟨S4x1x4096x1, .f32⟩
  | .hbm, ⟨27, _⟩ => ⟨S4x1x4096x1, .f32⟩
  | .hbm, ⟨28, _⟩ => ⟨S4x1x4096x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S4x1x4096x1, .f32⟩
  | .hbm, ⟨34, _⟩ => ⟨S4x1x4096x1, .f32⟩
  | .hbm, ⟨35, _⟩ => ⟨S4x1x4096x2048, .f32⟩
  | .hbm, ⟨36, _⟩ => ⟨S4x1x4096x2048, .f32⟩
  | .hbm, ⟨37, _⟩ => ⟨S_, .f32⟩
  | .hbm, ⟨38, _⟩ => ⟨S4x1x4096x1, .f32⟩
  | .hbm, ⟨39, _⟩ => ⟨S4x1x4096x1, .f32⟩
  | .hbm, ⟨40, _⟩ => ⟨S4x1x4096x1, .f32⟩
  | .hbm, ⟨41, _⟩ => ⟨S4x1x4096x2048, .f32⟩
  | .hbm, ⟨42, _⟩ => ⟨S4x1x4096x2048, .f32⟩
  | .hbm, ⟨43, _⟩ => ⟨S1x1x1x2048, .f32⟩
  | .hbm, ⟨44, _⟩ => ⟨S4x1x4096x2048, .f32⟩
  | .hbm, ⟨45, _⟩ => ⟨S4x1x4096x2048, .f32⟩
  | .hbm, ⟨46, _⟩ => ⟨S1x1x1x2048, .f32⟩
  | .hbm, ⟨47, _⟩ => ⟨S4x1x4096x2048, .f32⟩
  | .hbm, ⟨48, _⟩ => ⟨S4x1x4096x2048, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i1⟩
  | .hbm, ⟨60, _⟩ => ⟨S1, .i1⟩
  | .hbm, ⟨61, _⟩ => ⟨S_, .i1⟩
  | .hbm, ⟨62, _⟩ => ⟨S_, .i1⟩
  | .hbm, ⟨63, _⟩ => ⟨S2048, .f32⟩
  | .hbm, ⟨64, _⟩ => ⟨S2048, .i1⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S1x1x1x2048, .f32⟩
  | .hbm, ⟨69, _⟩ => ⟨S4x1x4096x2048, .f32⟩
  | .hbm, ⟨70, _⟩ => ⟨S4x1x4096x2048, .f32⟩
  | _, _ => ⟨S4x1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call1_c : Ref sig .tc := ⟨.hbm, 49, rfl⟩
abbrev main_call1_v0 : Ref sig .tc := ⟨.hbm, 50, rfl⟩
abbrev main_call1_c_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_c_1 : Ref sig .tc := ⟨.hbm, 55, rfl⟩
abbrev main_call1_c_2 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_c_3 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_cst : Ref sig .tc := ⟨.hbm, 65, rfl⟩
abbrev main_call1_v11 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩

abbrev nD : Nat := 1
abbrev τ : Topo := Topo.v7x

variable {F : FTy → Type} [FloatOps F]
-- ==== Proof.Index.lean ====
/- What the precondition says of the modality index: printed as a predicate of one bit, it bounds the word, read as a
   signed integer, to `0 ≤ index < 4`; as a natural number the word is then below four, so it names a row of the
   four-row embedding table. Both readings of the kernel (floats as bits, floats as extended reals) use this one fact. -/
module

public import proofs.«01_k».proof.Defs

@[expose] public section

namespace Cert.Modality

open Idealize.ShloMosaic

/-- A signed word at least zero and below four is, as a natural number, below four. -/
theorem toNat_lt_four (w : BitVec 32) (h0 : BitVec.sle 0#32 w = true) (h4 : BitVec.slt w 4#32 = true) : w.toNat < 4 := by
  simp only [BitVec.sle, BitVec.slt, decide_eq_true_eq, BitVec.toInt, BitVec.toNat_ofNat] at h0 h4
  omega

/-- The precondition at any reading of the floats: the index word is below four. -/
theorem word_lt_four {F : FTy → Type} [FloatOps F] [Cert.Pre_index_in_table.Facts]
    (x : FVec F Cert.Pre_index_in_table.S4x1x4096x2048 .f32) (g b : FVec F Cert.Pre_index_in_table.S2048 .f32)
    (e : FVec F Cert.Pre_index_in_table.S4x2048 .f32) (w : IVec Cert.Pre_index_in_table.S_ 32)
    (h : Cert.Pre_index_in_table.fn (F := F) x g b e w = fun _ => 1#1) (j : Cert.Pre_index_in_table.S_.Idx) :
    (w j).toNat < 4 := by
  have bits : ∀ p q : Bool, IntOp.andi (BitVec.ofBool p) (BitVec.ofBool q) = 1#1 → p = true ∧ q = true := by decide
  have hj := congrFun h j
  simp only [Cert.Pre_index_in_table.fn, andi, cmpi, constantI, IntOp.cmpi] at hj
  have hb := bits _ _ hj
  exact toNat_lt_four _ hb.1 hb.2

end Cert.Modality

end
-- ==== Proof.Row.lean ====
/- One row of the layer, as mathematics on extended reals: the mean of 2048 entries, their variance about it, and the
   normalized entry scaled by gamma and shifted by beta and by the embedding entry. The two spellings of the
   normalization — dividing by the square root of the variance plus epsilon, multiplying by its reciprocal square
   root — agree, since the variance is never negative and epsilon is positive; infinities among the entries are
   allowed throughout. -/
module

public import Idealize.ShloMosaic.Lib.Pointwise
public import Idealize.ShloMosaic.PureOps.Ideal.Laws
public import Mathlib.Data.EReal.Inv

@[expose] public section

noncomputable section

namespace Cert.LayerRow

open Idealize.ShloMosaic
open scoped BigOperators

/-- The number of entries of a row, 2048, as both programs write it. -/
abbrev count : EReal := Ideal.ofBits .f32 0x45000000#32
/-- The constant added to the variance, the f32 nearest to 1e-5. -/
abbrev eps : EReal := Ideal.ofBits .f32 0x3727C5AC#32

/-- The mean of a row. -/
def mean (r : Fin 2048 → EReal) : EReal := Ideal.div (∑ k, r k) count
/-- The variance of a row about its mean. -/
def variance (r : Fin 2048 → EReal) : EReal := Ideal.div (∑ k, (r k - mean r) * (r k - mean r)) count
/-- The layer's result at entry `k` of a row: normalized, scaled by gamma, shifted by beta, plus the embedding. -/
def layer (r : Fin 2048 → EReal) (g b e : EReal) (k : Fin 2048) : EReal :=
  Ideal.div (r k - mean r) (Ideal.sqrt (variance r + eps)) * g + b + e

/-- The pattern of 2048 denotes the real number 2048. -/
theorem count_eq : count = ((2048 : ℝ) : EReal) := by
  simp [count, Ideal.ofBits, Ideal.ieee, -EReal.coe_mul]; norm_num

/-- The added constant is positive. -/
theorem eps_pos : 0 < eps := by
  simp [eps, Ideal.ofBits, Ideal.ieee, -EReal.coe_mul]

/-- A square is not negative, at the infinities too. -/
theorem square_nonneg (x : EReal) : 0 ≤ x * x := by
  rcases le_total 0 x with h | h
  · exact mul_nonneg h h
  · have e : x * x = (-x) * (-x) := (neg_mul_neg x x).symm
    have h' : 0 ≤ -x := EReal.neg_nonneg.mpr h
    rw [e]; exact mul_nonneg h' h'

/-- The variance is not negative. -/
theorem variance_nonneg (r : Fin 2048 → EReal) : 0 ≤ variance r := by
  have hs : 0 ≤ ∑ k, (r k - mean r) * (r k - mean r) := Finset.sum_nonneg fun k _ => square_nonneg _
  have hc : (0 : EReal) < count := by rw [count_eq]; exact_mod_cast (by norm_num : (0 : ℝ) < 2048)
  unfold variance Ideal.div
  rw [if_neg hc.ne']
  exact mul_nonneg hs (EReal.inv_nonneg_of_nonneg hc.le)

/-- For a positive radicand, dividing by the square root is multiplying by the reciprocal square root. -/
theorem div_sqrt (x v : EReal) (h : 0 < v) : Ideal.div x (Ideal.sqrt v) = x * Ideal.rsqrt v := by
  induction v using EReal.rec with
  | bot => exact absurd h (by simp)
  | top =>
    show Ideal.div x ⊤ = x * 0
    unfold Ideal.div
    rw [if_neg (by simp), EReal.inv_top]
  | coe v =>
    have hv : 0 < v := by exact_mod_cast h
    have hs : 0 < Real.sqrt v := Real.sqrt_pos.mpr hv
    have e1 : Ideal.sqrt (v : EReal) = (Real.sqrt v : EReal) := by
      show (if v < 0 then ⊥ else (Real.sqrt v : EReal)) = _
      rw [if_neg hv.le.not_gt]
    have e2 : Ideal.rsqrt (v : EReal) = ((Real.sqrt v)⁻¹ : ℝ) := by
      show (if v < 0 then ⊥ else if v = 0 then ⊤ else (((Real.sqrt v)⁻¹ : ℝ) : EReal)) = _
      rw [if_neg hv.le.not_gt, if_neg hv.ne']
    rw [e1, e2]
    unfold Ideal.div
    rw [if_neg (by exact_mod_cast hs.ne'), EReal.coe_inv]

/-- The layer's result with the normalization spelt by a reciprocal square root and the two shifts added first. -/
theorem layer_eq (r : Fin 2048 → EReal) (g b e : EReal) (k : Fin 2048) :
    (r k - mean r) * Ideal.rsqrt (variance r + eps) * g + (b + e) = layer r g b e k := by
  have h : 0 < variance r + eps := lt_of_lt_of_le eps_pos (le_add_of_nonneg_left (variance_nonneg r))
  unfold layer
  rw [div_sqrt _ _ h, add_assoc]

end Cert.LayerRow

end
-- ==== Proof.Block.lean ====
/- What one grid point's body computes, as a pure function of what it loads: of 1024 rows of the input, beta, one row of
   the embedding table and gamma it makes 1024 rows of the layer's result. -/
module

public import proofs.«01_k».proof.Proof.Row
public import proofs.«01_k».proof.Proof.Gen.KernelIdeal.Skeleton
public import Idealize.ShloMosaic.Lib.Pointwise

@[expose] public section

noncomputable section

namespace Cert.KernelBlock

open Cert.KernelIdeal Cert.KernelIdeal.Gen
open Idealize.ShloMosaic
open scoped BigOperators

/-- The stored vector at row `i` and column `k` is the layer's result for that row. -/
theorem stored_apply (x : Vec Ideal S1024x2048 .f32) (b : Vec Ideal S2048 .f32) (e : Vec Ideal S1x2048 .f32)
    (g : Vec Ideal S2048 .f32) (i : Fin 1024) (k : Fin 2048) :
    k0_pay1 x b e g (ix2 i k) = Cert.LayerRow.layer (fun l => x (ix2 i l)) (g (ix1 k)) (b (ix1 k)) (e (ix2 0 k)) k := by
  rw [← Cert.LayerRow.layer_eq]
  unfold Cert.LayerRow.variance Cert.LayerRow.mean
  pointwise [k0_pay1]

end Cert.KernelBlock

end
-- ==== Proof.WordIdeal.lean ====
/- The word the kernel's body reads from its prefetched table, with floats read as Ideal: it is the modality index
   argument itself (the host reshapes the scalar into a table of one word), so under the precondition the row it names
   lies inside the embedding table, which is the one side condition the body assumes. -/
module

public import proofs.«01_k».proof.Proof.Index
public import proofs.«01_k».proof.Proof.Gen.KernelIdeal.Frame
public import Idealize.ShloMosaic.Lib.StableHlo.Run
public import Idealize.ShloMosaic.Lib.Pipeline.Value
public import Idealize.ShloMosaic.Lib.Pointwise

@[expose] public section

namespace Cert.KernelIdealWord

open Cert.KernelIdeal Cert.KernelIdeal.Gen
open Idealize.ShloMosaic Idealize.ShloMosaic.TcCoe

variable {F : FTy → Type} [FloatOps F] (m : (ℓ : Loc nD τ sig) → Buf (Elt F) ℓ)

/-- The index argument as the launch finds it: one 32-bit word. -/
abbrev index (c : Dev nD) : BitVec 32 := m ((c : Thread nD τ).loc main_arg4) Idealize.ShloMosaic.ix0

/-- When the region is entered the table holds the index argument reshaped to one word. -/
theorem V_table (c : Dev nD) (j : S1.Idx) : V m c main_v1 j = index m c := by
  have e : V m c main_v1 = fun i => shapeCast S1 (m ((c : Thread nD τ).loc main_arg4)) shapeCasts_S_S1 i := by
    show StableHlo.after (List.flatten [hostOps0]) (fun b => m (c, b)) (Proc.devRef .tc main_v1) = _
    simp only [hostOps0, List.flatten_cons, List.flatten_nil, List.append_nil]
    after_results_simp <;> rfl
  rw [e]
  unfold shapeCast index
  exact congrArg _ (funext fun a : Fin S_.rank => a.elim0)

/-- The word the body reads, at every point of the grid, is the index argument. -/
theorem word_eq (c : Dev nD) (j) : tbM0_0.view.readAt (Elt F) (Rect.unit (s := S1) ![0] S1.size inb_S1_S1_0).toLoadRect (tbl m 0) j
    = index m c := by
  obtain rfl : c = 0 := Subsingleton.elim _ _
  simp only [View.readAt_apply, View.read_apply, cast_eq]
  exact V_table m 0 _

/-- A word below four names a row of the table: the side condition the body assumes of it. -/
theorem row_inside (w : BitVec 32) (h : w.toNat < 4) : k0_chk1 w := by
  unfold k0_chk1 k0_off2
  intro a
  fin_cases a
  · show w.toNat + 1 ≤ 4
    omega
  · show 0 + 2048 ≤ 2048
    omega

/-- The pipeline asks nothing of the table: no window's block is chosen by it. -/
theorem ok : Ok m := trivial

/-- With the index below four, everything the body assumes holds at every point. -/
theorem hyps (h : ∀ c, (index m c).toNat < 4) : Hyps m (ok m) :=
  Hyps.of fun c _ => row_inside _ (by rw [word_eq m c]; exact h c)

end Cert.KernelIdealWord

end
-- ==== Proof.Point.lean ====
/- What the body leaves in the output's staging buffer at one grid point, read off the blocks it is given: the layer's
   result for 1024 of the 2048 rows of the point's input block (the second grid coordinate chooses which half), with
   the embedding row that the table's word names. -/
module

public import proofs.«01_k».proof.Proof.Block
public import proofs.«01_k».proof.Proof.WordIdeal
public import Idealize.ShloMosaic.Lib.VecWindow
public import Idealize.ShloMosaic.Lib.Pipeline.ValueKit.Tiles

@[expose] public section

noncomputable section

namespace Cert.KernelPoint

open Cert.KernelIdeal Cert.KernelIdeal.Gen
open Idealize.ShloMosaic Idealize.ShloMosaic.TcCoe

/-- The first row, within the point's input block, of the rows the body takes: 0 or 1024. -/
theorem rows_start (i : grid0.Coords) : k0_off1 i 0 = 1024 * (i 1).val ∧ k0_off1 i 1 = 0 := by
  rw [k0_off1_eq]; exact ⟨rfl, rfl⟩

/-- What the run leaves in the output's staging buffer is the stored vector, as a function of the loads. -/
theorem out_eq (c : Dev nD) (i : grid0.Coords) (arg3 : Memref sig .tc .vmem S2048x2048 .f32) (harg3 : arg3.IsWhole)
    (arg4 : Memref sig .tc .vmem S2048 .f32) (harg4 : arg4.IsWhole) (arg5 : Memref sig .tc .vmem S2048 .f32) (harg5 : arg5.IsWhole)
    (arg6 : Memref sig .tc .vmem S4x2048 .f32) (harg6 : arg6.IsWhole) (arg7 : Memref sig .tc .vmem S1024x2048 .f32) (harg7 : arg7.IsWhole)
    (x0 : Vec Ideal S2048x2048 .f32) (x1 : Vec Ideal S2048 .f32) (x2 : Vec Ideal S2048 .f32) (x3 : Vec Ideal S4x2048 .f32)
    (xt0 : TbBuf0 (F := Ideal) c tbM0_0)
    (hw : k0_chk1 (tbM0_0.view.readAt (Elt Ideal) (Rect.unit (s := S1) ![0] S1.size inb_S1_S1_0).toLoadRect xt0 (Shape.Idx.first (numel1_S1.symm ▸ Nat.one_pos))))
    (y : S1024x2048.Idx) :
    out0_A_4 c i arg3 harg3 arg4 harg4 arg5 harg5 arg6 harg6 arg7 harg7 x0 x1 x2 x3 xt0 hw y
      = k0_pay1 (fun p => x0 ((Rect.unit (s := S2048x2048) (k0_off1 i) S1024x2048.size (k0_off1_inb i)).idx p))
          (fun p => x2 ((Rect.unit (s := S2048) ![0] S2048.size inb_S2048_S2048_0).idx p))
          (fun p => x3 ((Rect.unit (s := S4x2048) (k0_off2 _) S1x2048.size (k0_off2_inb _ hw)).idx p))
          (fun p => x1 ((Rect.unit (s := S2048) ![0] S2048.size inb_S2048_S2048_0).idx p)) y := by
  unfold out0_A_4 kernelRun0_A
  have h := View.read_writes_cons_emb (v := VO0_4) (f := VO0_4.junk) (Val := Elt Ideal)
    (Rect.unit (s := S1024x2048) ![0, 0] S1024x2048.size inb_S1024x2048_S1024x2048_0_0)
    (k0_pay1 (arg3.view.readAt (Elt Ideal) (Rect.unit (s := S2048x2048) (k0_off1 i) S1024x2048.size (k0_off1_inb i)).toLoadRect (harg3.unread x0))
      (arg5.view.readAt (Elt Ideal) (Rect.unit (s := S2048) ![0] S2048.size inb_S2048_S2048_0).toLoadRect (harg5.unread x2))
      (arg6.view.readAt (Elt Ideal) (Rect.unit (s := S4x2048) (k0_off2 _) S1x2048.size (k0_off2_inb _ hw)).toLoadRect (harg6.unread x3))
      (arg4.view.readAt (Elt Ideal) (Rect.unit (s := S2048) ![0] S2048.size inb_S2048_S2048_0).toLoadRect (harg4.unread x1))) [] y
  rw [Rect.emb_unit_full] at h
  refine h.trans ?_
  have e : ∀ {S : Shape} (a : Memref sig .tc .vmem S .f32) (ha : a.IsWhole) (r : Rect S) (x : Vec Ideal S .f32),
      a.view.readAt (Elt Ideal) r.toLoadRect (ha.unread x) = fun p => x (r.idx p) :=
    fun a ha r x => funext fun p => by rw [View.readAt_apply, ha.read_unread]
  rw [e, e, e, e]
  rfl

/-- The same at row `i` and column `k` of the block, in coordinates: the row taken is row `1024 · half + i` of the input
    block, the embedding row is the one the table's word names. -/
theorem out_apply (c : Dev nD) (t : grid0.Coords) (arg3 : Memref sig .tc .vmem S2048x2048 .f32) (harg3 : arg3.IsWhole)
    (arg4 : Memref sig .tc .vmem S2048 .f32) (harg4 : arg4.IsWhole) (arg5 : Memref sig .tc .vmem S2048 .f32) (harg5 : arg5.IsWhole)
    (arg6 : Memref sig .tc .vmem S4x2048 .f32) (harg6 : arg6.IsWhole) (arg7 : Memref sig .tc .vmem S1024x2048 .f32) (harg7 : arg7.IsWhole)
    (x0 : Vec Ideal S2048x2048 .f32) (x1 : Vec Ideal S2048 .f32) (x2 : Vec Ideal S2048 .f32) (x3 : Vec Ideal S4x2048 .f32)
    (xt0 : TbBuf0 (F := Ideal) c tbM0_0)
    (hw : k0_chk1 (tbM0_0.view.readAt (Elt Ideal) (Rect.unit (s := S1) ![0] S1.size inb_S1_S1_0).toLoadRect xt0 (Shape.Idx.first (numel1_S1.symm ▸ Nat.one_pos))))
    (w : Fin 4) (hword : tbM0_0.view.readAt (Elt Ideal) (Rect.unit (s := S1) ![0] S1.size inb_S1_S1_0).toLoadRect xt0 (Shape.Idx.first (numel1_S1.symm ▸ Nat.one_pos)) = BitVec.ofNat 32 w.val)
    (i : Fin 1024) (k : Fin 2048) (r : Fin 2048) (hr : r.val = 1024 * (t 1).val + i.val) :
    out0_A_4 c t arg3 harg3 arg4 harg4 arg5 harg5 arg6 harg6 arg7 harg7 x0 x1 x2 x3 xt0 hw (ix2 i k)
      = Cert.LayerRow.layer (fun l => x0 (ix2 r l)) (x1 (ix1 k)) (x2 (ix1 k)) (x3 (ix2 w k)) k := by
  rw [out_eq, Cert.KernelBlock.stored_apply]
  have e1 : ∀ l : Fin 2048, (Rect.unit (s := S2048) ![0] S2048.size inb_S2048_S2048_0).idx (ix1 l) = ix1 l :=
    fun l => Rect.emb_unit_full _ _
  have e0 : ∀ l : Fin 2048,
      (Rect.unit (s := S2048x2048) (k0_off1 t) S1024x2048.size (k0_off1_inb t)).idx (ix2 i l) = ix2 r l := by
    intro l
    funext a; apply Fin.ext
    rw [Rect.idx_unit_val]
    obtain ⟨o0, o1⟩ := rows_start t
    match a with
    | ⟨0, _⟩ => show k0_off1 t 0 + i.val = r.val; omega
    | ⟨1, _⟩ => show k0_off1 t 1 + l.val = l.val; omega
  have e2 : (Rect.unit (s := S4x2048) (k0_off2 _) S1x2048.size (k0_off2_inb _ hw)).idx (ix2 (0 : Fin 1) k) = ix2 w k := by
    funext a; apply Fin.ext
    rw [Rect.idx_unit_val]
    match a with
    | ⟨0, _⟩ =>
      show k0_off2 _ 0 + 0 = w.val
      rw [hword]
      show (BitVec.ofNat 32 w.val).toNat + 0 = w.val
      rw [BitVec.toNat_ofNat]; have := w.isLt; omega
    | ⟨1, _⟩ => show 0 + k.val = k.val; omega
  have h0 : (fun l => x0 ((Rect.unit (s := S2048x2048) (k0_off1 t) S1024x2048.size (k0_off1_inb t)).idx (ix2 i l)))
      = fun l => x0 (ix2 r l) := funext fun l => congrArg x0 (e0 l)
  exact congr (congr (congr (congr (congrArg _ h0) (congrArg x1 (e1 k))) (congrArg x2 (e1 k))) (congrArg x3 e2)) rfl

end Cert.KernelPoint

end
-- ==== Proof.Array.lean ====
/- What the kernel's result array holds when the pipeline is done: its sixteen blocks of 1024 rows tile the array, and
   each block is what the body stored at its grid point, so the array at row `R` and column `k` is the row's normalized
   entry, scaled and shifted. -/
module

public import proofs.«01_k».proof.Proof.Point
public import Idealize.ShloMosaic.Lib.Pipeline.ValueKit.Basic

@[expose] public section

noncomputable section

namespace Cert.KernelArray

open Cert.KernelIdeal Cert.KernelIdeal.Gen Cert.KernelIdealWord
open Idealize.ShloMosaic hiding ix0
open Idealize.ShloMosaic.TcCoe

variable (m : (ℓ : Loc nD τ sig) → Buf (Elt Ideal) ℓ)

/-- The grid has sixteen points; the output's block at point `t` is block `t`, the input's is the block of 2048 rows
    containing it, and the second coordinate tells which half of it. -/
theorem schedule : ∀ t : Fin grid0.N,
    cc0_transform_4 (grid0.coords t) 0 = t.val ∧ cc0_transform_4 (grid0.coords t) 1 = 0
      ∧ 2 * cc0_transform_0 (grid0.coords t) 0 + (grid0.coords t 1).val = t.val
      ∧ cc0_transform_0 (grid0.coords t) 1 = 0
      ∧ (grid0.coords t 1).val < 2 := by decide +kernel

/-- The sequence array as the region finds it, 16384 rows of 2048. -/
abbrev rows (c : Dev nD) : S16384x2048.Idx → EReal := V m c main_v0

/-- Entry (`r`, `l`) of the input block at point `t` is the sequence array at the row that block starts at plus `r`. -/
theorem block_rows (hO : Ok m) (c : Dev nD) (t : Fin grid0.N) (r l : Fin 2048) (R : Fin 16384)
    (hR : R.val = 2048 * cc0_transform_0 (grid0.coords t) 0 + r.val) :
    iblk m hO c 0 t (ix2 r l) = rows m c (ix2 R l) := by
  unfold iblk
  refine (View.read_apply ..).trans ?_
  refine congrArg (rows m c) (funext fun a => Fin.ext ?_)
  obtain ⟨-, -, -, h1, -⟩ := schedule t
  match a with
  | ⟨0, _⟩ => show cc0_transform_0 (grid0.coords t) 0 * 2048 + 1 * r.val = R.val; omega
  | ⟨1, _⟩ => show cc0_transform_0 (grid0.coords t) 1 * 2048 + 1 * l.val = l.val; omega

/-- The scale's block is the scale itself at every point. -/
theorem block_gamma (hO : Ok m) (c : Dev nD) (t : Fin grid0.N) (k : Fin 2048) :
    iblk m hO c 1 t (ix1 k) = m ((c : Thread nD τ).loc main_arg1) (ix1 k) := by
  refine Eq.trans ?_ (congrFun (V_main_arg1 m c) (ix1 k))
  unfold iblk
  refine (View.read_apply ..).trans ?_
  refine congrArg (V m c main_arg1) (funext fun a => Fin.ext ?_)
  match a with
  | ⟨0, _⟩ => show 0 * 2048 + 1 * k.val = k.val; omega

/-- The shift's block is the shift itself at every point. -/
theorem block_beta (hO : Ok m) (c : Dev nD) (t : Fin grid0.N) (k : Fin 2048) :
    iblk m hO c 2 t (ix1 k) = m ((c : Thread nD τ).loc main_arg2) (ix1 k) := by
  refine Eq.trans ?_ (congrFun (V_main_arg2 m c) (ix1 k))
  unfold iblk
  refine (View.read_apply ..).trans ?_
  refine congrArg (V m c main_arg2) (funext fun a => Fin.ext ?_)
  match a with
  | ⟨0, _⟩ => show 0 * 2048 + 1 * k.val = k.val; omega

/-- The embedding table's block is the table itself at every point. -/
theorem block_emb (hO : Ok m) (c : Dev nD) (t : Fin grid0.N) (w : Fin 4) (k : Fin 2048) :
    iblk m hO c 3 t (ix2 w k) = m ((c : Thread nD τ).loc main_arg3) (ix2 w k) := by
  refine Eq.trans ?_ (congrFun (V_main_arg3 m c) (ix2 w k))
  unfold iblk
  refine (View.read_apply ..).trans ?_
  refine congrArg (V m c main_arg3) (funext fun a => Fin.ext ?_)
  match a with
  | ⟨0, _⟩ => show 0 * 4 + 1 * w.val = w.val; omega
  | ⟨1, _⟩ => show 0 * 2048 + 1 * k.val = k.val; omega

/-- What the result array is shown to hold, with the index naming row `w` of the embedding table: at row `R` and column
    `k` the layer's entry of row `R` of the sequence array. -/
def result (c : Dev nD) (w : Fin 4) : Buf (Elt Ideal) ((c : Thread nD τ).loc main_v2) := fun (i : S16384x2048.Idx) =>
  Cert.LayerRow.layer (fun l => rows m c (ix2 (i 0 : Fin 16384) l)) (m ((c : Thread nD τ).loc main_arg1) (ix1 (i 1 : Fin 2048)))
    (m ((c : Thread nD τ).loc main_arg2) (ix1 (i 1 : Fin 2048))) (m ((c : Thread nD τ).loc main_arg3) (ix2 w (i 1 : Fin 2048))) (i 1)

/-- After the body at point `t`, entry (`i`, `k`) of the output block is the layer's entry of row `1024 t + i`. -/
theorem after_apply (hO : Ok m) (hH : Hyps m hO) (c : Dev nD) (w : Fin 4) (hw : index m c = BitVec.ofNat 32 w.val)
    (t : Fin grid0.N) (i : Fin 1024) (k : Fin 2048) (R : Fin 16384) (hR : R.val = 1024 * t.val + i.val) :
    outsAt0 m hO hH c t (ix2 i k) = result m c w (ix2 R k) := by
  obtain ⟨-, -, h0, -, h1⟩ := schedule t
  unfold outsAt0
  refine (Cert.KernelPoint.out_apply c (grid0.coords t) _ _ _ _ _ _ _ _ _ _ _ _ _ _ _ _ w ((word_eq m c _).trans hw) i k
    ⟨1024 * (grid0.coords t 1).val + i.val, by have := i.isLt; omega⟩ rfl).trans ?_
  have e : (fun l => iblk m hO c 0 t (ix2 (⟨1024 * (grid0.coords t 1).val + i.val, by have := i.isLt; omega⟩ : Fin 2048) l))
      = fun l => rows m c (ix2 R l) :=
    funext fun l => block_rows m hO c t _ l R (by show R.val = _ + (1024 * (grid0.coords t 1).val + i.val); omega)
  exact congr (congr (congr (congr (congrArg _ e) (block_gamma m hO c t k)) (block_beta m hO c t k)) (block_emb m hO c t w k)) rfl

/-- What point `t` writes back is its block of the result. -/
theorem flushed_eq (hO : Ok m) (hH : Hyps m hO) (c : Dev nD) (w : Fin 4) (hw : index m c = BitVec.ofNat 32 w.val)
    (t : Fin (cfgM m hO).N) :
    (dats m hO hH 0 c).flushed 4 t = (((cfgM m hO).win 4).blk t).view.read (Elt Ideal) (result m c w) := by
  show ((cfgM m hO).win 4).cut (grid0.coords t) ((dats m hO hH 0 c).after 4 t) = _
  rw [after0_4]
  funext (y : S1024x2048.Idx)
  obtain ⟨h0, h1, -⟩ := schedule t
  have ht : t.val < 16 := t.isLt
  have hy0 : (y 0).val < 1024 := (y 0).isLt
  refine Eq.trans ?_ (View.read_apply ..).symm
  have eL : ((cfgM m hO).win 4).cut (grid0.coords t) (outsAt0 m hO hH c t) y = outsAt0 m hO hH c t (ix2 (y 0 : Fin 1024) (y 1 : Fin 2048)) :=
    congrArg (outsAt0 m hO hH c t) (funext fun a => Fin.ext (match a with | ⟨0, _⟩ => rfl | ⟨1, _⟩ => rfl))
  refine eL.trans ((after_apply m hO hH c w hw t (y 0) (y 1) ⟨1024 * t.val + (y 0).val, by omega⟩ rfl).trans ?_)
  refine congrArg (result m c w) (funext fun a => Fin.ext ?_)
  match a with
  | ⟨0, _⟩ => show 1024 * t.val + (y 0).val = cc0_transform_4 (grid0.coords t) 0 * 1024 + 1 * (y 0).val; omega
  | ⟨1, _⟩ => show (y 1).val = cc0_transform_4 (grid0.coords t) 1 * 2048 + 1 * (y 1).val; omega

/-- Every index of the result array lies in the block of some point. -/
theorem cover (hO : Ok m) (i : S16384x2048.Idx) :
    ∃ t : Fin (cfgM m hO).N, ((cfgM m hO).win 4).flush t = true ∧ i ∈ (((cfgM m hO).win 4).blk t).view.set := by
  have h0 : (i 0).val < 16384 := (i 0).isLt
  have h1 : (i 1).val < 2048 := (i 1).isLt
  have hN : grid0.N = 16 := N_0
  obtain ⟨t, ht⟩ : ∃ t : Fin grid0.N, t.val = (i 0).val / 1024 := ⟨⟨(i 0).val / 1024, by omega⟩, rfl⟩
  refine ⟨t, flush0_4 _ t, ?_⟩
  obtain ⟨e0, e1, -⟩ := schedule t
  show i ∈ ((View.whole main_v2).slice (((cfgM m hO).win 4).rect t)).set
  erw [View.set_slice_whole]
  refine (Pipeline.Window.mem_rect_iff ((cfgM m hO).win 4) t i (by rfl)).mpr fun a => ?_
  match a with
  | ⟨0, _⟩ =>
    show cc0_transform_4 (grid0.coords t) 0 * 1024 ≤ (i 0).val ∧ (i 0).val < cc0_transform_4 (grid0.coords t) 0 * 1024 + 1024
    omega
  | ⟨1, _⟩ =>
    show cc0_transform_4 (grid0.coords t) 1 * 2048 ≤ (i 1).val ∧ (i 1).val < cc0_transform_4 (grid0.coords t) 1 * 2048 + 2048
    omega

/-- So the result array ends holding the result. -/
theorem array_eq (hO : Ok m) (hH : Hyps m hO) (c : Dev nD) (w : Fin 4) (hw : index m c = BitVec.ofNat 32 w.val) :
    (dats m hO hH 0 c).arrAt 4 (cfgM m hO).N = result m c w :=
  (dats m hO hH 0 c).arrAt_eq_of_cover 4 (result m c w) (fun t _ => flushed_eq m hO hH c w hw t) (cover m hO)

end Cert.KernelArray

end
-- ==== Proof.Tail.lean ====
/- The kernel's whole run: the sequence argument is reshaped into rows before the launch and the launch's result is
   reshaped back after it, so entry (`a`, 0, `b`, `k`) of the program's result is the layer's entry of the sequence's own
   row (`a`, 0, `b`); and the five arguments are left as they were. -/
module

public import proofs.«01_k».proof.Proof.Array

@[expose] public section

noncomputable section

namespace Cert.KernelRun

open Cert.KernelIdeal Cert.KernelIdeal.Gen Cert.KernelIdealWord Cert.KernelArray
open Idealize.ShloMosaic hiding ix0
open Idealize.ShloMosaic.TcCoe Idealize.SL.Sem

variable (m : (ℓ : Loc nD τ sig) → Buf (Elt Ideal) ℓ) (ρ : Dev nD → PrngReg)

/-- When the region is entered the rows are the sequence argument reshaped. -/
theorem rows_eq (c : Dev nD) :
    rows m c = shapeCast S16384x2048 (m ((c : Thread nD τ).loc main_arg0) : S4x1x4096x2048.Idx → EReal) shapeCasts_S4x1x4096x2048_S16384x2048 := by
  show StableHlo.after (List.flatten [hostOps0]) (fun b => m (c, b)) (Proc.devRef .tc main_v0) = _
  simp only [hostOps0, List.flatten_cons, List.flatten_nil, List.append_nil]
  after_results_simp <;> rfl

/-- Row `4096 a + b` of the rows is row (`a`, 0, `b`) of the sequence argument. -/
theorem rows_apply (c : Dev nD) (R : Fin 16384) (l : Fin 2048) (a : Fin 4) (z : Fin 1) (b : Fin 4096) (h : R.val = 4096 * a.val + b.val) :
    rows m c (ix2 R l) = m ((c : Thread nD τ).loc main_arg0) (ix4 a z b l) := by
  rw [rows_eq]
  refine shapeCast_apply _ _ _ (ix4 a z b l) ?_
  rw [Shape.rowMajor_val_four, Shape.rowMajor_val_two]
  have := z.isLt
  show ((a.val * 1 + z.val) * 4096 + b.val) * 2048 + l.val = R.val * 2048 + l.val
  omega

/-- The program's result is the launch's result array reshaped. -/
theorem tail_eq (hO : Ok m) (hH : Hyps m hO) (c : Dev nD) :
    Pipeline.afterTail pcfgs (fun _ => adm m hO) (dats m hO hH) 0 (V0 m) [hostOps1] c main_v3
      = shapeCast S4x1x4096x2048 ((dats m hO hH 0 c).arrAt 4 (cfgM m hO).N : S16384x2048.Idx → EReal) shapeCasts_S16384x2048_S4x1x4096x2048 := by
  unfold Pipeline.afterTail
  simp only [hostOps1, List.flatten_cons, List.flatten_nil, List.append_nil]
  after_results_simp
  exact congrArg (fun x : S16384x2048.Idx → EReal => shapeCast S4x1x4096x2048 x shapeCasts_S16384x2048_S4x1x4096x2048)
    (Pipeline.withArrays_arr spec0 (by decide) c (V0 m c) _ 4)

/-- What the program's result is shown to hold, with the index naming row `w` of the embedding table: every row of the
    sequence through the layer. -/
def final (c : Dev nD) (w : Fin 4) : Buf (Elt Ideal) ((c : Thread nD τ).loc main_v3) := fun (i : S4x1x4096x2048.Idx) =>
  Cert.LayerRow.layer (fun l => m ((c : Thread nD τ).loc main_arg0) (ix4 (i 0 : Fin 4) (i 1 : Fin 1) (i 2 : Fin 4096) l))
    (m ((c : Thread nD τ).loc main_arg1) (ix1 (i 3 : Fin 2048)))
    (m ((c : Thread nD τ).loc main_arg2) (ix1 (i 3 : Fin 2048))) (m ((c : Thread nD τ).loc main_arg3) (ix2 w (i 3 : Fin 2048))) (i 3)

/-- The launch's result array reshaped is the final array. -/
theorem reshaped (c : Dev nD) (w : Fin 4) :
    shapeCast S4x1x4096x2048 (result m c w : S16384x2048.Idx → EReal) shapeCasts_S16384x2048_S4x1x4096x2048 = final m c w := by
  funext (i : S4x1x4096x2048.Idx)
  have h0 : (i 0).val < 4 := (i 0).isLt
  have h1 : (i 1).val < 1 := (i 1).isLt
  have h2 : (i 2).val < 4096 := (i 2).isLt
  have hR : 4096 * (i 0).val + (i 2).val < 16384 := by omega
  refine (shapeCast_apply _ _ _ (ix2 (⟨4096 * (i 0).val + (i 2).val, hR⟩ : Fin 16384) (i 3 : Fin 2048)) ?_).trans ?_
  · rw [Shape.rowMajor_val_four, Shape.rowMajor_val_two]
    show (4096 * (i 0).val + (i 2).val) * 2048 + (i 3).val = (((i 0).val * 1 + (i 1).val) * 4096 + (i 2).val) * 2048 + (i 3).val
    omega
  · unfold result final
    exact congrArg (fun r => Cert.LayerRow.layer r _ _ _ _) (funext fun l => rows_apply m c _ l (i 0) (i 1) (i 2) rfl)

/-- THE KERNEL'S RUN: from any memory whose index names row `w` on every device, every weakly fair execution terminates
    with the result at the final array and the five arguments unchanged. -/
theorem run (w : Dev nD → Fin 4) (hw : ∀ c, index m c = BitVec.ofNat 32 (w c).val) :
    θ_run defs (onTc (τ := τ) (main (F := Ideal))) ⟨m, fun _ => 0, ρ⟩ fun r => ∀ c : Dev nD,
      r.2.mem ((c.tc : Thread nD τ).loc main_v3) = final m c (w c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hH : Hyps m (ok m) := hyps m fun c => by
    rw [hw c, BitVec.toNat_ofNat]; have := (w c).isLt; omega
  refine (θ_run defs _ _).mono (fun r h c => ⟨?_, h.2 c⟩)
    (θ_run_and (run_main m ρ (ok m) hH) (unchanged m ρ (ok m) hH))
  refine ((h.1 c).2 main_v3 (by decide : main_v3 ∈ Pipeline.restRefs sig spec0)).trans ?_
  rw [tail_eq m (ok m) hH c, array_eq m (ok m) hH c (w c) (hw c)]
  exact reshaped m c (w c)

end Cert.KernelRun

end
-- ==== Proof.Lookup.lean ====
/- The reference's embedding lookup: for an index word below four, the wrap of negative indices leaves the word alone, the
   range test passes, and the gather takes the row the word names; so the lookup is that row of the table. -/
module

public import proofs.«01_k».proof.Proof.Gen.ReferenceIdeal
public import Idealize.ShloMosaic.Lib.Pointwise

@[expose] public section

noncomputable section

namespace Cert.ReferenceLookup

open Cert.ReferenceIdeal Cert.ReferenceIdeal.Gen
open Idealize.ShloMosaic

/-- The index as the gather is given it: four is added to a negative one, and it becomes a vector of one word. -/
def wrapped (i : IVec S_ 32) : IVec S1 32 :=
  broadcastInDim S1 ![] bcast_S_S1 (select (cmpi .slt i (constantI S_ 32 0#32)) (addi i (constantI S_ 32 4#32)) i)

/-- Whether the wrapped index is a row of the table. -/
def inside (i : IVec S_ 32) : IVec S_ 1 :=
  Host.reduce IntOp.andi (andi (cmpi .sge (wrapped i) (broadcastInDim S1 ![] bcast_S_S1 (constantI S_ 32 0#32)))
    (cmpi .sle (wrapped i) (constantI S1 32 3#32))) (constantI S_ 1 1#1) reducesTo_S1_S_d0 h_S_

/-- The row looked up, with a fill value for an index outside the table. -/
def taken (emb : FVec Ideal S4x2048 .f32) (i : IVec S_ 32) : FVec Ideal S2048 .f32 :=
  select (broadcastInDim S2048 ![] bcast_S_S2048 (inside i))
    (Host.gather gather_S4x2048_S1_S2048_0_0_n_n_0_0_12048 emb (wrapped i))
    (broadcastInDim S2048 ![] bcast_S_S2048 (constant S_ .f32 0x7FC00000#32))

/-- A word below four is not wrapped. -/
theorem wrapped_eq (w : Fin 4) : wrapped (fun _ => BitVec.ofNat 32 w.val) = fun _ => BitVec.ofNat 32 w.val := by
  funext j
  have h : ∀ w : Fin 4, IntOp.cmpi .slt (BitVec.ofNat 32 w.val) 0#32 = 0#1 := by decide
  show (if IntOp.cmpi .slt (BitVec.ofNat 32 w.val) 0#32 = 1#1 then _ else BitVec.ofNat 32 w.val) = _
  rw [h w, if_neg (by decide)]

/-- Conjunction over bits that are all set, from a set bit, is a set bit. -/
theorem conj_ones {ι : Type} (L : List ι) (f : ι → BitVec 1) (hf : ∀ n, f n = 1#1) :
    L.foldl (fun r n => IntOp.andi r (f n)) 1#1 = 1#1 := by
  induction L with
  | nil => rfl
  | cons n L ih =>
    rw [List.foldl_cons, hf n]
    exact ih

/-- A word below four passes the range test. -/
theorem inside_eq (w : Fin 4) (j : S_.Idx) : inside (fun _ => BitVec.ofNat 32 w.val) j = 1#1 := by
  unfold inside Host.reduce
  rw [wrapped_eq]
  have h : ∀ w : Fin 4, IntOp.andi (IntOp.cmpi .sge (BitVec.ofNat 32 w.val) 0#32) (IntOp.cmpi .sle (BitVec.ofNat 32 w.val) 3#32) = 1#1 := by
    decide
  exact conj_ones _ _ fun n => h w

/-- The gather at the word `w` takes row `w`. -/
theorem gather_apply (emb : FVec Ideal S4x2048 .f32) (w : Fin 4) (k : Fin 2048) :
    Host.gather gather_S4x2048_S1_S2048_0_0_n_n_0_0_12048 emb (fun _ => BitVec.ofNat 32 w.val) (ix1 k) = emb (ix2 w k) := by
  unfold Host.gather
  refine congrArg emb (funext fun a => Fin.ext ?_)
  match a with
  | ⟨0, _⟩ => fin_cases w <;> rfl
  | ⟨1, _⟩ =>
    show 0 + 0 + k.val = k.val
    omega

/-- The lookup at the word `w` is row `w` of the table. -/
theorem taken_apply (emb : FVec Ideal S4x2048 .f32) (i : IVec S_ 32) (w : Fin 4) (hi : i = fun _ => BitVec.ofNat 32 w.val) (k : Fin 2048) :
    taken emb i (ix1 k) = emb (ix2 w k) := by
  subst hi
  unfold taken
  rw [wrapped_eq]
  refine Eq.trans ?_ (gather_apply emb w k)
  show (if inside (fun _ => BitVec.ofNat 32 w.val) _ = 1#1 then _ else _) = _
  rw [if_pos (inside_eq w _)]

end Cert.ReferenceLookup

end
-- ==== Proof.Normalize.lean ====
/- The reference's layer normalization at an index: entry (`a`, 0, `b`, `k`) is the entry of row (`a`, 0, `b`) less the row's
   mean, over the square root of the row's variance plus epsilon, scaled by gamma, shifted by beta. The reference
   guards the variance's divisor (2048 less zero) against not being positive; it is. -/
module

public import proofs.«01_k».proof.Proof.Row
public import proofs.«01_k».proof.Proof.Gen.ReferenceIdeal
public import Idealize.ShloMosaic.Lib.Pointwise

@[expose] public section

noncomputable section

namespace Cert.ReferenceNormalize

open Cert.ReferenceIdeal Cert.ReferenceIdeal.Gen Cert.LayerRow
open Idealize.ShloMosaic
open scoped BigOperators

/-- The rows' means, one to a row. -/
def means (x : FVec Ideal S4x1x4096x2048 .f32) : FVec Ideal S4x1x4096x1 .f32 :=
  Host.divf (broadcastInDim S4x1x4096x1 ![0, 1, 2] bcast_S4x1x4096_S4x1x4096x1_0_1_2
      (Host.reduceAdd x (constant S_ .f32 0x00000000#32) reducesTo_S4x1x4096x2048_S4x1x4096_d3 h_S_))
    (broadcastInDim S4x1x4096x1 ![] bcast_S_S4x1x4096x1 (constant S_ .f32 0x45000000#32))

/-- Each entry less its row's mean. -/
def centered (x : FVec Ideal S4x1x4096x2048 .f32) : FVec Ideal S4x1x4096x2048 .f32 :=
  subf x (broadcastInDim S4x1x4096x2048 ![0, 1, 2, 3] bcast_S4x1x4096x1_S4x1x4096x2048_0_1_2_3 (means x))

/-- The divisor of the variance: 2048 less the correction, which is zero. -/
def divisor : FVec Ideal S_ .f32 := subf (constant S_ .f32 0x45000000#32) (sitofp .f32 (constantI S_ 32 0#32))

/-- The rows' variances, one to a row, guarded by the divisor's sign. -/
def variances (x : FVec Ideal S4x1x4096x2048 .f32) : FVec Ideal S4x1x4096x1 .f32 :=
  select (broadcastInDim S4x1x4096x1 ![] bcast_S_S4x1x4096x1 (cmpf .ogt divisor (constant S_ .f32 0x00000000#32)))
    (Host.divf (broadcastInDim S4x1x4096x1 ![0, 1, 2] bcast_S4x1x4096_S4x1x4096x1_0_1_2
        (Host.reduceAdd (mulf (centered x) (centered x)) (constant S_ .f32 0x00000000#32) reducesTo_S4x1x4096x2048_S4x1x4096_d3 h_S_))
      (broadcastInDim S4x1x4096x1 ![] bcast_S_S4x1x4096x1 divisor))
    (broadcastInDim S4x1x4096x1 ![] bcast_S_S4x1x4096x1 (id (constant S_ .f32 0x7FC00000#32)))

/-- The normalized entries scaled and shifted. -/
def normalized (x : FVec Ideal S4x1x4096x2048 .f32) (g b : FVec Ideal S2048 .f32) : FVec Ideal S4x1x4096x2048 .f32 :=
  addf (mulf (Host.divf (centered x) (broadcastInDim S4x1x4096x2048 ![0, 1, 2, 3] bcast_S4x1x4096x1_S4x1x4096x2048_0_1_2_3
        (Host.sqrt (addf (variances x) (broadcastInDim S4x1x4096x1 ![] bcast_S_S4x1x4096x1 (constant S_ .f32 0x3727C5AC#32))))))
      (broadcastInDim S4x1x4096x2048 ![0, 1, 2, 3] bcast_S1x1x1x2048_S4x1x4096x2048_0_1_2_3 (broadcastInDim S1x1x1x2048 ![3] bcast_S2048_S1x1x1x2048_3 g)))
    (broadcastInDim S4x1x4096x2048 ![0, 1, 2, 3] bcast_S1x1x1x2048_S4x1x4096x2048_0_1_2_3 (broadcastInDim S1x1x1x2048 ![3] bcast_S2048_S1x1x1x2048_3 b))

/-- The entries of row (`a`, `z`, `c`). -/
abbrev row (x : FVec Ideal S4x1x4096x2048 .f32) (a : Fin 4) (z : Fin 1) (c : Fin 4096) : Fin 2048 → EReal := fun l => x (ix4 a z c l)

/-- The divisor is 2048. -/
theorem divisor_eq (j : S_.Idx) : divisor j = count := by
  show count - (((0#32).toInt : ℝ) : EReal) = count
  simp

/-- The guard on the divisor passes. -/
theorem guard_eq (j : S_.Idx) : cmpf .ogt divisor (constant S_ .f32 0x00000000#32) j = 1#1 := by
  have h : (0 : EReal) < divisor j := by
    rw [divisor_eq, count_eq]; exact_mod_cast (by norm_num : (0 : ℝ) < 2048)
  have h0 : Ideal.ofBits .f32 0x00000000#32 = 0 := by simp [Ideal.ofBits, Ideal.ieee]
  show Ideal.cmp .ogt (divisor j) (Ideal.ofBits .f32 0x00000000#32) = 1#1
  rw [h0]
  unfold Ideal.cmp
  simp [h]

/-- The mean of row (`a`, `z`, `c`). -/
theorem means_apply (x : FVec Ideal S4x1x4096x2048 .f32) (a : Fin 4) (z : Fin 1) (c : Fin 4096) (u : Fin 1) :
    means x (ix4 a z c u) = mean (row x a z c) := by
  obtain rfl : z = 0 := Subsingleton.elim _ _
  unfold mean row
  pointwise [means]

/-- An entry of row (`a`, `z`, `c`) less the row's mean. -/
theorem centered_apply (x : FVec Ideal S4x1x4096x2048 .f32) (a : Fin 4) (z : Fin 1) (c : Fin 4096) (k : Fin 2048) :
    centered x (ix4 a z c k) = row x a z c k - mean (row x a z c) := by
  obtain rfl : z = 0 := Subsingleton.elim _ _
  unfold mean row
  pointwise [centered, means]

/-- The variance of row (`a`, `z`, `c`). -/
theorem variances_apply (x : FVec Ideal S4x1x4096x2048 .f32) (a : Fin 4) (z : Fin 1) (c : Fin 4096) (u : Fin 1) :
    variances x (ix4 a z c u) = variance (row x a z c) := by
  obtain rfl : z = 0 := Subsingleton.elim _ _
  unfold variances
  show (if cmpf .ogt divisor (constant S_ .f32 0x00000000#32) _ = 1#1 then _ else _) = _
  rw [if_pos (guard_eq _)]
  show Ideal.div _ (divisor _) = _
  rw [divisor_eq]
  unfold variance mean row
  refine congrArg (fun s => Ideal.div s count) ?_
  pointwise [centered, means]

/-- The normalized entry, scaled and shifted. -/
theorem normalized_apply (x : FVec Ideal S4x1x4096x2048 .f32) (g b : FVec Ideal S2048 .f32) (a : Fin 4) (z : Fin 1) (c : Fin 4096) (k : Fin 2048) :
    normalized x g b (ix4 a z c k)
      = Ideal.div (row x a z c k - mean (row x a z c)) (Ideal.sqrt (variance (row x a z c) + eps)) * g (ix1 k) + b (ix1 k) := by
  obtain rfl : z = 0 := Subsingleton.elim _ _
  rw [← centered_apply, ← variances_apply x a 0 c 0]
  pointwise [normalized]

end Cert.ReferenceNormalize

end
-- ==== Proof.Reference.lean ====
/- What the reference computes: its result at (`a`, 0, `b`, `k`) is the layer's entry `k` of row (`a`, 0, `b`) of the sequence,
   with the embedding row that the index names; and its run leaves the arguments as they were. -/
module

public import proofs.«01_k».proof.Proof.Lookup
public import proofs.«01_k».proof.Proof.Normalize
public import proofs.«01_k».proof.Proof.Gen.ReferenceIdeal.Run
public import Idealize.ShloMosaic.Lib.Quiescent

@[expose] public section

noncomputable section

namespace Cert.ReferenceRun

open Cert.ReferenceIdeal Cert.ReferenceIdeal.Gen
open Cert.ReferenceLookup Cert.ReferenceNormalize
open Idealize.ShloMosaic Idealize.ShloMosaic.TcCoe Idealize.SL.Sem

/-- The reference's result as a function of its arguments: the normalized sequence plus the row looked up, broadcast. -/
def value (x : FVec Ideal S4x1x4096x2048 .f32) (g b : FVec Ideal S2048 .f32) (emb : FVec Ideal S4x2048 .f32) (i : IVec S_ 32) :
    FVec Ideal S4x1x4096x2048 .f32 :=
  addf (normalized x g b) (broadcastInDim S4x1x4096x2048 ![0, 1, 2, 3] bcast_S1x1x1x2048_S4x1x4096x2048_0_1_2_3
    (shapeCast S1x1x1x2048 (taken emb i) shapeCasts_S2048_S1x1x1x2048))

/-- The reference's result at an index is the layer's entry. -/
theorem value_apply (x : FVec Ideal S4x1x4096x2048 .f32) (g b : FVec Ideal S2048 .f32) (emb : FVec Ideal S4x2048 .f32) (i : IVec S_ 32)
    (w : Fin 4) (hi : i = fun _ => BitVec.ofNat 32 w.val) (a : Fin 4) (z : Fin 1) (c : Fin 4096) (k : Fin 2048) :
    value x g b emb i (ix4 a z c k)
      = Cert.LayerRow.layer (fun l => x (ix4 a z c l)) (g (ix1 k)) (b (ix1 k)) (emb (ix2 w k)) k := by
  unfold Cert.LayerRow.layer
  refine Eq.trans ?_ (congr (congrArg HAdd.hAdd (normalized_apply x g b a z c k)) (taken_apply emb i w hi k))
  pointwise [value]

/-- THE REFERENCE'S RUN: from any memory every weakly fair execution terminates with the result at `value` of the arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = value (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run m ρ)

/-- The reference's frame: the arguments unchanged, and every semaphore counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩) (run m ρ)

end Cert.ReferenceRun

end
-- ==== Proof.Equation.lean ====
/- The equation: the array the kernel's result ends holding is the reference's result of the same five arguments, wherever
   the index names a row of the embedding table. -/
module

public import proofs.«01_k».proof.Proof.Tail
public import proofs.«01_k».proof.Proof.Reference

@[expose] public section

noncomputable section

namespace Cert.KernelEquation

open Cert.KernelIdeal Cert.KernelIdealWord
open Idealize.ShloMosaic hiding ix0
open Idealize.ShloMosaic.TcCoe

variable (m : (ℓ : Loc nD τ sig) → Buf (Elt Ideal) ℓ)

/-- A one-word array is constantly its word. -/
theorem index_const (c : Dev nD) (w : Fin 4) (hw : index m c = BitVec.ofNat 32 w.val) :
    (m ((c : Thread nD τ).loc main_arg4) : IVec S_ 32) = fun _ => BitVec.ofNat 32 w.val := by
  funext (j : S_.Idx)
  refine Eq.trans ?_ hw
  exact congrArg (m ((c : Thread nD τ).loc main_arg4)) (funext fun a : Fin S_.rank => a.elim0)

/-- A word below four is the word of a number below four. -/
theorem index_row (c : Dev nD) (h : (index m c).toNat < 4) : index m c = BitVec.ofNat 32 (⟨(index m c).toNat, h⟩ : Fin 4).val := by
  show index m c = BitVec.ofNat 32 (index m c).toNat
  rw [BitVec.ofNat_toNat, BitVec.setWidth_eq]

/-- The kernel's final array is the reference's value. -/
theorem final_eq (c : Dev nD) (w : Fin 4) (hw : index m c = BitVec.ofNat 32 w.val) :
    Cert.ReferenceRun.value (m ((c : Thread nD τ).loc main_arg0)) (m ((c : Thread nD τ).loc main_arg1)) (m ((c : Thread nD τ).loc main_arg2))
        (m ((c : Thread nD τ).loc main_arg3)) (m ((c : Thread nD τ).loc main_arg4))
      = Cert.KernelRun.final m c w := by
  funext (i : S4x1x4096x2048.Idx)
  have e : i = ix4 (i 0 : Fin 4) (i 1 : Fin 1) (i 2 : Fin 4096) (i 3 : Fin 2048) := by
    funext a
    match a with
    | ⟨0, _⟩ => rfl
    | ⟨1, _⟩ => rfl
    | ⟨2, _⟩ => rfl
    | ⟨3, _⟩ => rfl
  refine (congrArg _ e).trans ?_
  exact Cert.ReferenceRun.value_apply _ _ _ _ _ w (index_const m c w hw) (i 0) (i 1) (i 2) (i 3)

end Cert.KernelEquation

end
-- ==== Proof.lean ====
module

public import proofs.«01_k».proof.Defs
public import proofs.«01_k».proof.Proof.Gen.Kernel
public import proofs.«01_k».proof.Proof.Gen.Kernel.Frame
public import proofs.«01_k».proof.Proof.WordBits
public import proofs.«01_k».proof.Proof.Equation

@[expose] public section

noncomputable section

namespace Cert.Proof

open Idealize.ShloMosaic Idealize.SL.Sem

/-- The predicate states no side condition. -/
instance : Cert.Pre_index_in_table.Facts where

/-- Under the precondition the kernel's index names a row of the table, on every device. -/
theorem index_lt_four (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdealWord.index m c).toNat < 4 :=
  Cert.Modality.word_lt_four _ _ _ _ _ (h c) _

/-- The kernel's frame, floats as bits. -/
theorem frame_kernel : Cert.quiescent_Kernel := fun m g h =>
  Cert.Kernel.Gen.frame m g (Cert.KernelWord.ok m)
    (Cert.KernelWord.hyps m fun c => Cert.Modality.word_lt_four _ _ _ _ _ (h c) _)

/-- The kernel's frame, floats as extended reals. -/
theorem frame_kernelIdeal : Cert.quiescent_KernelIdeal := fun m g h =>
  Cert.KernelIdeal.Gen.frame m g (Cert.KernelIdealWord.ok m) (Cert.KernelIdealWord.hyps m (index_lt_four m h))

/-- The reference's frame, from any memory. -/
theorem frame_reference : Cert.quiescent_ReferenceIdeal := fun m g _ => Cert.ReferenceRun.frame m g

/-- The same under the precondition. -/
theorem frame_reference_pre : Cert.quiescent_ReferenceIdeal_pre_index_in_table := fun m g _ => Cert.ReferenceRun.frame m g

/-- The idealization replaced no operation. -/
theorem preserves : Cert.preserves_Kernel_KernelIdeal := trivial

/-- Under the precondition the kernel and the reference end with equal results. -/
theorem algebraic : Cert.algebraic_KernelIdeal_ReferenceIdeal := by
  intro m g m' g' hpre hagree
  let w : Dev Cert.KernelIdeal.nD → Fin 4 := fun c => ⟨(Cert.KernelIdealWord.index m c).toNat, index_lt_four m hpre c⟩
  have hw : ∀ c, Cert.KernelIdealWord.index m c = BitVec.ofNat 32 (w c).val :=
    fun c => Cert.KernelEquation.index_row m c (index_lt_four m hpre c)
  refine ⟨fun c => Cert.KernelRun.final m c (w c), Cert.KernelRun.run m g w hw, ?_⟩
  refine (θ_run Cert.ReferenceIdeal.defs _ _).mono (fun _ h c => ⟨(h c).1.trans ?_, (h c).2⟩) (Cert.ReferenceRun.run m' g')
  obtain ⟨h0, h1, h2, h3, h4⟩ := hagree c
  rw [h0, h1, h2, h3, h4]
  exact Cert.KernelEquation.final_eq m c (w c) (hw c)

theorem claim : Cert.Claim :=
  ⟨Cert.Kernel.Gen.facts, Cert.KernelIdeal.Gen.facts, Cert.ReferenceIdeal.Gen.facts, inferInstance,
    frame_kernel, frame_kernelIdeal, frame_reference, frame_reference_pre, preserves, algebraic⟩

end Cert.Proof

end
